-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "shift" .f32 0x3E1324E0#32 (((1 / 2) * (Real.log (8007 / 6007)) : ℝ) : EReal)
  ∧ IdealRules.named_const.Statement Cert.KernelIdeal.κ "half_l" .f32 0x40603958#32 ((7007 / 2000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_cst)) (v3 : (c : Dev Cert.KernelIdeal.nD) → Buf (Elt Ideal) ((c.tc : Thread Cert.KernelIdeal.nD Cert.KernelIdeal.τ).loc Cert.KernelIdeal.main_cst_0)) (v4 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_cst_0) = v3 c
          ∧ r.2.mem ((c.tc : Thread Cert.KernelIdeal.nD Cert.KernelIdeal.τ).loc Cert.KernelIdeal.main_v0_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_cst_12) = v2 c
          ∧ r.2.mem ((c.tc : Thread Cert.ReferenceIdeal.nD Cert.ReferenceIdeal.τ).loc Cert.ReferenceIdeal.main_cst_13) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2048 : Shape := ⟨3, ![8, 2048, 2048]⟩
abbrev S80x2048 : Shape := ⟨2, ![80, 2048]⟩
abbrev S80 : Shape := ⟨1, ![80]⟩
abbrev S2048x80 : Shape := ⟨2, ![2048, 80]⟩
abbrev S2048 : Shape := ⟨1, ![2048]⟩
abbrev S80x1 : Shape := ⟨2, ![80, 1]⟩
abbrev S2048x1 : Shape := ⟨2, ![2048, 1]⟩
abbrev S8x16x2048 : Shape := ⟨3, ![8, 16, 2048]⟩
abbrev S1x2048x1024 : Shape := ⟨3, ![1, 2048, 1024]⟩
abbrev S1x16x1024 : Shape := ⟨3, ![1, 16, 1024]⟩
abbrev S2048x1024 : Shape := ⟨2, ![2048, 1024]⟩
abbrev S80x1024 : Shape := ⟨2, ![80, 1024]⟩
abbrev S16x80 : Shape := ⟨2, ![16, 80]⟩
abbrev S16x1024 : Shape := ⟨2, ![16, 1024]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S80x2048, .f32⟩
  | .hbm, ⟨2, _⟩ => ⟨S80, .f32⟩
  | .hbm, ⟨3, _⟩ => ⟨S2048x80, .f32⟩
  | .hbm, ⟨4, _⟩ => ⟨S2048, .f32⟩
  | .hbm, ⟨5, _⟩ => ⟨S80x1, .f32⟩
  | .hbm, ⟨6, _⟩ => ⟨S2048x1, .f32⟩
  | .hbm, ⟨7, _⟩ => ⟨S8x2048x2048, .f32⟩
  | .hbm, ⟨8, _⟩ => ⟨S8x16x2048, .i32⟩
  | .hbm, ⟨9, _⟩ => ⟨S_, .f32⟩
  | .hbm, ⟨10, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S80x2048, .f32⟩
  | .local _ .vmem, ⟨3, _⟩ => ⟨S80x1, .f32⟩
  | .local _ .vmem, ⟨4, _⟩ => ⟨S2048x80, .f32⟩
  | .local _ .vmem, ⟨5, _⟩ => ⟨S2048x1, .f32⟩
  | .local _ .vmem, ⟨6, _⟩ => ⟨S1x2048x1024, .f32⟩
  | .local _ .vmem, ⟨7, _⟩ => ⟨S1x2048x1024, .f32⟩
  | .local _ .vmem, ⟨8, _⟩ => ⟨S1x16x1024, .i32⟩
  | .local _ .vmem, ⟨9, _⟩ => ⟨S1x16x1024, .i32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_cst_0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S80x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S80x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "half_l" => some ((7007 / 2000 : ℝ) : EReal)
  | "shift" => some (((1 / 2) * (Real.log (8007 / 6007)) : ℝ) : EReal)
  | _ => none
-- ==== ReferenceIdeal.lean ====
abbrev S8x2048x2048 : Shape := ⟨3, ![8, 2048, 2048]⟩
abbrev S80x2048 : Shape := ⟨2, ![80, 2048]⟩
abbrev S80 : Shape := ⟨1, ![80]⟩
abbrev S2048x80 : Shape := ⟨2, ![2048, 80]⟩
abbrev S2048 : Shape := ⟨1, ![2048]⟩
abbrev S5 : Shape := ⟨1, ![5]⟩
abbrev S8x2048x80 : Shape := ⟨3, ![8, 2048, 80]⟩
abbrev S1x1x80 : Shape := ⟨3, ![1, 1, 80]⟩
abbrev S8x2048x16x5 : Shape := ⟨4, ![8, 2048, 16, 5]⟩
abbrev S_ : Shape := ⟨0, ![]⟩
abbrev S1x1x1x5 : Shape := ⟨4, ![1, 1, 1, 5]⟩
abbrev S8x2048x16 : Shape := ⟨3, ![8, 2048, 16]⟩
abbrev S1x1x2048 : Shape := ⟨3, ![1, 1, 2048]⟩
abbrev S8x16x2048 : Shape := ⟨3, ![8, 16, 2048]⟩

abbrev nBuf : Space → Nat
  | .hbm => 101
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S80x2048, .f32⟩
  | .hbm, ⟨2, _⟩ => ⟨S80, .f32⟩
  | .hbm, ⟨3, _⟩ => ⟨S2048x80, .f32⟩
  | .hbm, ⟨4, _⟩ => ⟨S2048, .f32⟩
  | .hbm, ⟨5, _⟩ => ⟨S5, .f32⟩
  | .hbm, ⟨6, _⟩ => ⟨S5, .i32⟩
  | .hbm, ⟨7, _⟩ => ⟨S5, .f32⟩
  | .hbm, ⟨8, _⟩ => ⟨S5, .f32⟩
  | .hbm, ⟨9, _⟩ => ⟨S8x2048x2048, .f32⟩
  | .hbm, ⟨10, _⟩ => ⟨S2048x80, .f32⟩
  | .hbm, ⟨11, _⟩ => ⟨S8x2048x80, .f32⟩
  | .hbm, ⟨12, _⟩ => ⟨S1x1x80, .f32⟩
  | .hbm, ⟨13, _⟩ => ⟨S8x2048x80, .f32⟩
  | .hbm, ⟨14, _⟩ => ⟨S8x2048x80, .f32⟩
  | .hbm, ⟨15, _⟩ => ⟨S8x2048x16x5, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S5, .f32⟩
  | .hbm, ⟨21, _⟩ => ⟨S5, .f32⟩
  | .hbm, ⟨22, _⟩ => ⟨S_, .f32⟩
  | .hbm, ⟨23, _⟩ => ⟨S_, .f32⟩
  | .hbm, ⟨24, _⟩ => ⟨S5, .f32⟩
  | .hbm, ⟨25, _⟩ => ⟨S5, .f32⟩
  | .hbm, ⟨26, _⟩ => ⟨S_, .f32⟩
  | .hbm, ⟨27, _⟩ => ⟨S5, .f32⟩
  | .hbm, ⟨28, _⟩ => ⟨S5, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S5, .i32⟩
  | .hbm, ⟨36, _⟩ => ⟨S5, .i32⟩
  | .hbm, ⟨37, _⟩ => ⟨S_, .i32⟩
  | .hbm, ⟨38, _⟩ => ⟨S5, .i32⟩
  | .hbm, ⟨39, _⟩ => ⟨S5, .i1⟩
  | .hbm, ⟨40, _⟩ => ⟨S_, .i32⟩
  | .hbm, ⟨41, _⟩ => ⟨S5, .i32⟩
  | .hbm, ⟨42, _⟩ => ⟨S5, .i1⟩
  | .hbm, ⟨43, _⟩ => ⟨S_, .i32⟩
  | .hbm, ⟨44, _⟩ => ⟨S_, .i1⟩
  | .hbm, ⟨45, _⟩ => ⟨S5, .i1⟩
  | .hbm, ⟨46, _⟩ => ⟨S5, .i1⟩
  | .hbm, ⟨47, _⟩ => ⟨S5, .i1⟩
  | .hbm, ⟨48, _⟩ => ⟨S5, .i32⟩
  | .hbm, ⟨49, _⟩ => ⟨S5, .i32⟩
  | .hbm, ⟨50, _⟩ => ⟨S5, .i32⟩
  | .hbm, ⟨51, _⟩ => ⟨S_, .i32⟩
  | .hbm, ⟨52, _⟩ => ⟨S5, .i32⟩
  | .hbm, ⟨53, _⟩ => ⟨S5, .i1⟩
  | .hbm, ⟨54, _⟩ => ⟨S_, .f32⟩
  | .hbm, ⟨55, _⟩ => ⟨S_, .f32⟩
  | .hbm, ⟨56, _⟩ => ⟨S5, .f32⟩
  | .hbm, ⟨57, _⟩ => ⟨S5, .f32⟩
  | .hbm, ⟨58, _⟩ => ⟨S5, .f32⟩
  | .hbm, ⟨59, _⟩ => ⟨S5, .f32⟩
  | .hbm, ⟨60, _⟩ => ⟨S5, .f32⟩
  | .hbm, ⟨61, _⟩ => ⟨S5, .f32⟩
  | .hbm, ⟨62, _⟩ => ⟨S1x1x1x5, .f32⟩
  | .hbm, ⟨63, _⟩ => ⟨S8x2048x16x5, .f32⟩
  | .hbm, ⟨64, _⟩ => ⟨S8x2048x16x5, .f32⟩
  | .hbm, ⟨65, _⟩ => ⟨S8x2048x16x5, .f32⟩
  | .hbm, ⟨66, _⟩ => ⟨S1x1x1x5, .f32⟩
  | .hbm, ⟨67, _⟩ => ⟨S8x2048x16x5, .f32⟩
  | .hbm, ⟨68, _⟩ => ⟨S8x2048x16x5, .f32⟩
  | .hbm, ⟨69, _⟩ => ⟨S5, .f32⟩
  | .hbm, ⟨70, _⟩ => ⟨S1x1x1x5, .f32⟩
  | .hbm, ⟨71, _⟩ => ⟨S8x2048x16x5, .f32⟩
  | .hbm, ⟨72, _⟩ => ⟨S8x2048x16x5, .f32⟩
  | .hbm, ⟨73, _⟩ => ⟨S8x2048x16x5, .f32⟩
  | .hbm, ⟨74, _⟩ => ⟨S8x2048x16x5, .f32⟩
  | .hbm, ⟨75, _⟩ => ⟨S8x2048x16x5, .f32⟩
  | .hbm, ⟨76, _⟩ => ⟨S1x1x1x5, .f32⟩
  | .hbm, ⟨77, _⟩ => ⟨S8x2048x16x5, .f32⟩
  | .hbm, ⟨78, _⟩ => ⟨S8x2048x16x5, .f32⟩
  | .hbm, ⟨79, _⟩ => ⟨S1x1x1x5, .f32⟩
  | .hbm, ⟨80, _⟩ => ⟨S8x2048x16x5, .f32⟩
  | .hbm, ⟨81, _⟩ => ⟨S8x2048x16x5, .f32⟩
  | .hbm, ⟨82, _⟩ => ⟨S1x1x1x5, .f32⟩
  | .hbm, ⟨83, _⟩ => ⟨S8x2048x16x5, .f32⟩
  | .hbm, ⟨84, _⟩ => ⟨S8x2048x16x5, .f32⟩
  | .hbm, ⟨85, _⟩ => ⟨S1x1x1x5, .f32⟩
  | .hbm, ⟨86, _⟩ => ⟨S8x2048x16x5, .f32⟩
  | .hbm, ⟨87, _⟩ => ⟨S8x2048x16x5, .f32⟩
  | .hbm, ⟨88, _⟩ => ⟨S_, .f32⟩
  | .hbm, ⟨89, _⟩ => ⟨S8x2048x16, .f32⟩
  | .hbm, ⟨90, _⟩ => ⟨S8x2048x16, .i32⟩
  | .hbm, ⟨91, _⟩ => ⟨S8x2048x80, .f32⟩
  | .hbm, ⟨92, _⟩ => ⟨S80x2048, .f32⟩
  | .hbm, ⟨93, _⟩ => ⟨S8x2048x2048, .f32⟩
  | .hbm, ⟨94, _⟩ => ⟨S1x1x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S8x16x2048, .i32⟩
  | .hbm, ⟨99, _⟩ => ⟨S_, .f32⟩
  | .hbm, ⟨100, _⟩ => ⟨S_, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_cst_3 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_6 : Ref sig .tc := ⟨.hbm, 26, rfl⟩
abbrev main_v13 : Ref sig .tc := ⟨.hbm, 27, rfl⟩
abbrev main_v14 : Ref sig .tc := ⟨.hbm, 28, rfl⟩
abbrev main_c_7 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v15 : Ref sig .tc := ⟨.hbm, 50, rfl⟩
abbrev main_c_8 : Ref sig .tc := ⟨.hbm, 51, rfl⟩
abbrev main_v16 : Ref sig .tc := ⟨.hbm, 52, rfl⟩
abbrev main_v17 : Ref sig .tc := ⟨.hbm, 53, rfl⟩
abbrev main_cst_9 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_11 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_12 : Ref sig .tc := ⟨.hbm, 99, rfl⟩
abbrev main_cst_13 : Ref sig .tc := ⟨.hbm, 100, rfl⟩

abbrev nD : Nat := 1
abbrev τ : Topo := Topo.v7x

variable {F : FTy → Type} [FloatOps F]
-- ==== Proof.Fsq.Level.lean ====
/- The quantiser of one scalar over the extended reals, and the arithmetic that both programs' spellings of it share:
   the two constants, the rounding of a bounded real, the codes, and a digit sum cut out of a longer sum. -/
module

public import Idealize.ShloMosaic.PureOps.Ideal
public import Idealize.ShloMosaic.PureOps.Ideal.Laws
public import Idealize.ShloMosaic.Lib.Pointwise.Sums
public import Mathlib.Analysis.SpecialFunctions.Artanh

@[expose] public section

noncomputable section

namespace Cert.Fsq

open Idealize.ShloMosaic

/-! ## The literals of the two programs, as reals -/

/-- The literal one half. -/
theorem lit_half : Ideal.ofBits .f32 0x3F000000#32 = ((1 / 2 : ℝ) : EReal) := by
  simp [Ideal.ofBits, Ideal.ieee, -EReal.coe_mul]; norm_num

/-- The literal one quarter. -/
theorem lit_quarter : Ideal.ofBits .f32 0x3E800000#32 = ((1 / 4 : ℝ) : EReal) := by
  simp [Ideal.ofBits, Ideal.ieee, -EReal.coe_mul]; norm_num

/-- The literal two. -/
theorem lit_two : Ideal.ofBits .f32 0x40000000#32 = ((2 : ℝ) : EReal) := by
  simp [Ideal.ofBits, Ideal.ieee, -EReal.coe_mul]; norm_num

/-- The literal four. -/
theorem lit_four : Ideal.ofBits .f32 0x40800000#32 = ((4 : ℝ) : EReal) := by
  simp [Ideal.ofBits, Ideal.ieee, -EReal.coe_mul]; norm_num

/-- The literal eight. -/
theorem lit_eight : Ideal.ofBits .f32 0x41000000#32 = ((8 : ℝ) : EReal) := by
  simp [Ideal.ofBits, Ideal.ieee, -EReal.coe_mul]; norm_num

/-- The literal one thousand. -/
theorem lit_thousand : Ideal.ofBits .f32 0x447A0000#32 = ((1000 : ℝ) : EReal) := by
  simp [Ideal.ofBits, Ideal.ieee, -EReal.coe_mul]; norm_num

/-! ## The quantiser -/

/-- Half the range of an eight-level quantiser, widened by one thousandth: `7 · 1.001 / 2`. -/
def halfL : EReal := ((7007 / 2000 : ℝ) : EReal)

/-- The shift that sends zero to the middle of the range: `artanh (1/2 / halfL)`, as a logarithm. -/
def shift : EReal := ((1 / 2 * Real.log (8007 / 6007) : ℝ) : EReal)

/-- The value before rounding: squashed to the range and moved down by one half. -/
def bounded (z : EReal) : EReal := Ideal.tanh (z + shift) * halfL - ((1 / 2 : ℝ) : EReal)

/-- The level of `z`: the bounded value rounded to the nearest integer, ties to even. -/
def level (z : EReal) : EReal := Ideal.liftRound Ideal.roundHalfEven (bounded z)

/-- The hyperbolic tangent of an extended real is a real. -/
theorem tanh_real (z : EReal) : ∃ r : ℝ, Ideal.tanh z = (r : EReal) := by
  induction z with
  | bot => exact ⟨-1, by simp⟩
  | top => exact ⟨1, by simp⟩
  | coe r => exact ⟨Real.tanh r, rfl⟩

/-- The bounded value is a real, whatever the extended real `z`. -/
theorem bounded_real (z : EReal) : ∃ r : ℝ, bounded z = (r : EReal) := by
  obtain ⟨r, hr⟩ := tanh_real (z + shift)
  exact ⟨r * (7007 / 2000) - 1 / 2, by rw [bounded, hr, halfL]; rfl⟩

/-- A level is an integer. -/
theorem level_int (z : EReal) : ∃ n : ℤ, level z = ((n : ℝ) : EReal) := by
  obtain ⟨r, hr⟩ := bounded_real z
  exact ⟨Ideal.roundHalfEven r, by rw [level, hr]; rfl⟩

/-- Adding the rounding error to the bounded value gives the level. -/
theorem bounded_add_error (z : EReal) : bounded z + (level z - bounded z) = level z := by
  obtain ⟨r, hr⟩ := bounded_real z
  obtain ⟨n, hn⟩ := level_int z
  rw [hr, hn]
  norm_cast
  ring_nf

/-- A level divided by four is the level times one quarter. -/
theorem level_div_four (z : EReal) : Ideal.div (level z) ((4 : ℝ) : EReal) = level z * ((1 / 4 : ℝ) : EReal) := by
  rw [Ideal.div, if_neg (by norm_cast), ← EReal.coe_inv, one_div]

/-- The code times four, plus four, is the level plus four. -/
theorem code_unscale (z : EReal) :
    level z * ((1 / 4 : ℝ) : EReal) * ((4 : ℝ) : EReal) + ((4 : ℝ) : EReal) = level z + ((4 : ℝ) : EReal) := by
  rw [mul_assoc, ← EReal.coe_mul]
  norm_num

/-- The shift as the inverse hyperbolic tangent of the ratio of the offset to half the range. -/
theorem atanh_ratio : Ideal.atanh ((1000 / 7007 : ℝ) : EReal) = shift := by
  rw [Ideal.atanh_coe, if_neg (by norm_num), if_neg (by norm_num), if_pos (by norm_num), shift, Real.artanh,
    Real.log_sqrt (by norm_num)]
  have h : ((1 : ℝ) + 1000 / 7007) / (1 - 1000 / 7007) = 8007 / 6007 := by norm_num
  rw [h, one_div, inv_mul_eq_div]

/-- The weight that column `e` of the digit matrix carries in row `q`: a power of eight where `e` is one of the five
    entries of codebook `q`, zero elsewhere. -/
def weight (q e : ℕ) : EReal := if e / 5 = q then ((8 ^ (e % 5) : ℝ) : EReal) else 0

/-- Weighting all eighty entries by row `q` leaves the five entries of codebook `q`, weighted by powers of eight. -/
theorem sum_weight (q : Fin 16) (f : Fin 80 → EReal) :
    ∑ e : Fin 80, weight q e * f e
      = ∑ k : Fin 5, f ⟨q.val * 5 + k.val, by omega⟩ * ((8 ^ k.val : ℝ) : EReal) := by
  rw [Fin.sum_univ_tiles 16 5 (rfl : 16 * 5 = 80) fun e : Fin 80 => weight q e * f e, Finset.sum_eq_single q]
  · refine Finset.sum_congr rfl fun k _ => ?_
    rw [weight, if_pos (by dsimp only; omega), mul_comm]
    have hk : (q.val * 5 + k.val) % 5 = k.val := by omega
    rw [hk]
  · intro j _ hj
    refine Finset.sum_eq_zero fun k _ => ?_
    rw [weight, if_neg (by dsimp only; omega), zero_mul]
  · exact fun h => absurd (Finset.mem_univ q) h

end Cert.Fsq

end
-- ==== Proof.Fsq.KernelPay.lean ====
/- What one grid point of the kernel computes, read at an index: the levels of the projected inputs, the projection of
   their codes back, and the packed index of each codebook. -/
module

public import proofs.«01_k».proof.Proof.Gen.KernelIdeal.Skeleton
public import proofs.«01_k».proof.Proof.Fsq.Level
public import Idealize.ShloMosaic.Lib.Pointwise

@[expose] public section

set_option maxRecDepth 16384

noncomputable section

namespace Cert.Fsq

open Idealize.ShloMosaic Cert.KernelIdeal Cert.KernelIdeal.Gen

/-- The name `shift` stands for the shift of the quantiser. -/
theorem named_shift : Named.named (F := Ideal) (φ := .f32) κ "shift" 0x3E1324E0#32 = shift := rfl

/-- The name `half_l` stands for half the range of the quantiser. -/
theorem named_half : Named.named (F := Ideal) (φ := .f32) κ "half_l" 0x40603958#32 = halfL := rfl

/-- The rounded block: entry `e` at time `t` is the level of row `e` of the weights against column `t` of the inputs,
    plus the bias of `e`. -/
theorem pay2_at (W : FVec Ideal S80x2048 .f32) (X : FVec Ideal S1x2048x1024 .f32) (b : FVec Ideal S80x1 .f32)
    (e : Fin 80) (t : Fin 1024) :
    k0_pay2 (F := Ideal) W X b (ix2 e t) = level (∑ d : Fin 2048, W (ix2 e d) * X (ix3 0 d t) + b (ix2 e 0)) := by
  pointwise [k0_pay2, named_shift, named_half, lit_half]
  rfl

/-- The block of the first result: the codes, which are quarters of levels, against row `d` of the output weights,
    plus the bias of `d`. -/
theorem pay3_at (W : FVec Ideal S80x2048 .f32) (X : FVec Ideal S1x2048x1024 .f32) (b : FVec Ideal S80x1 .f32)
    (V : FVec Ideal S2048x80 .f32) (a : FVec Ideal S2048x1 .f32) (d : Fin 2048) (t : Fin 1024) :
    k0_pay3 (F := Ideal) W X b V a (ix3 0 d t)
      = ∑ e : Fin 80, V (ix2 d e) * (k0_pay2 (F := Ideal) W X b (ix2 e t) * ((1 / 4 : ℝ) : EReal)) + a (ix2 d 0) := by
  pointwise [k0_pay3, lit_quarter]

/-- The levels moved up by four. -/
theorem pay4_at (W : FVec Ideal S80x2048 .f32) (X : FVec Ideal S1x2048x1024 .f32) (b : FVec Ideal S80x1 .f32)
    (e : Fin 80) (t : Fin 1024) :
    k0_pay4 (F := Ideal) W X b (ix2 e t) = k0_pay2 (F := Ideal) W X b (ix2 e t) + ((4 : ℝ) : EReal) := by
  pointwise [k0_pay4, lit_four]

/-- The remainder of a column number by five, as the kernel's words compute it, times three. -/
def digitWord (x : BitVec 32) : BitVec 32 :=
  let five := Scalar.select (Scalar.cmpi .eq 5#32 0#32) 1#32 5#32
  let r := IntOp.remsi .vector x five
  IntOp.muli 3#32 (Scalar.select
    (IntOp.andi (IntOp.xori (IntOp.cmpi .slt r 0#32) (Scalar.cmpi .slt five 0#32)) (IntOp.cmpi .ne r 0#32))
    (IntOp.addi r five) r)

/-- The quotient of a column number by five, rounded down, as the kernel's words compute it. -/
def bookWord (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 5#32 0#32)) (Scalar.extui (Scalar.cmpi .slt 5#32 0#32))))
      (IntOp.cmpi .ne (IntOp.remsi .vector x 5#32) 0#32))
    (IntOp.subi (IntOp.divsi .vector x 5#32) 1#32) (IntOp.divsi .vector x 5#32)

/-- The digit word of column `e` is three times the remainder of `e` by five. -/
theorem digitWord_eq : ∀ e : Fin 80, (digitWord (BitVec.ofNat 32 e.val)).toInt = 3 * (e.val % 5 : ℕ) := by
  decide +kernel

/-- The codebook word of column `e` equals `q` exactly when `e` divided by five is `q`. -/
theorem bookWord_eq : ∀ (e : Fin 80) (q : Fin 16),
    IntOp.cmpi .eq (bookWord (BitVec.ofNat 32 e.val)) (BitVec.ofNat 32 q.val) = if e.val / 5 = q.val then 1#1 else 0#1 := by
  decide +kernel

/-- Two to the digit word of column `e` is eight to the remainder of `e` by five. -/
theorem exp2_digit (e : Fin 80) :
    Ideal.exp2 (FloatOps.sitofp (F := Ideal) .f32 (digitWord (BitVec.ofNat 32 e.val))) = ((8 ^ (e.val % 5) : ℝ) : EReal) := by
  show Ideal.exp2 ((((digitWord (BitVec.ofNat 32 e.val)).toInt : ℝ)) : EReal) = _
  rw [digitWord_eq, Ideal.exp2_coe]
  congr 1
  have h : ((3 * (e.val % 5 : ℕ) : ℤ) : ℝ) = ((3 * (e.val % 5) : ℕ) : ℝ) := by norm_cast
  rw [h]
  show (2 : ℝ) ^ ((3 * (e.val % 5) : ℕ) : ℝ) = _
  rw [Real.rpow_natCast, pow_mul]
  norm_num

/-- The block of the second result: row `q` of the digit matrix against the shifted levels, as an integer. -/
theorem pay5_at (z : FVec Ideal S80x1024 .f32) (q : Fin 16) (t : Fin 1024) :
    k0_pay1 (k0_pay5 (F := Ideal) z (iota .tc S16x80 32 [0] iota_S16x80_d0_w32) (iota .tc S16x80 32 [1] iota_S16x80_d1_w32)
      (Scalar.select (Scalar.cmpi .eq 5#32 0#32) 1#32 5#32)) (ix3 0 q t)
      = Ideal.fptosi 32 (∑ e : Fin 80, weight q e * z (ix2 e t)) := by
  pointwise [k0_pay1, k0_pay5]
  refine congrArg (Ideal.fptosi 32) (Finset.sum_congr rfl fun e _ => ?_)
  refine (congrArg (fun w => Scalar.select w _ _) (bookWord_eq e q)).trans ?_
  by_cases h : e.val / 5 = q.val
  · rw [if_pos h, weight, if_pos h]
    exact congrArg (· * z (ix2 e t)) (exp2_digit e)
  · rw [if_neg h, weight, if_neg h, zero_mul]
    rfl

end Cert.Fsq

end
-- ==== Proof.Fsq.Result.lean ====
/- The two arrays that both programs compute, as functions of the five argument arrays: the quantised signal and the
   packed index of each codebook at each time. -/
module

public import proofs.«01_k».proof.Proof.Fsq.Level
public import Idealize.ShloMosaic.Lib.ValueIdx

@[expose] public section

noncomputable section

namespace Cert.Fsq

open Idealize.ShloMosaic

variable (x : FVec Ideal ⟨3, ![8, 2048, 2048]⟩ .f32) (W : FVec Ideal ⟨2, ![80, 2048]⟩ .f32) (b : FVec Ideal ⟨1, ![80]⟩ .f32)
  (V : FVec Ideal ⟨2, ![2048, 80]⟩ .f32) (a : FVec Ideal ⟨1, ![2048]⟩ .f32)

/-- Entry `e` of the projection of the input vector of batch `n` at time `t`, with its bias. -/
def proj (n : Fin 8) (e : Fin 80) (t : Fin 2048) : EReal :=
  ∑ d : Fin 2048, W (ix2 e d) * x (ix3 n d t) + b (ix1 e)

/-- The quantised signal of batch `n`, channel `d`, time `t`: the codes against row `d` of the output weights, with the
    bias of `d`. -/
def zq (n : Fin 8) (d : Fin 2048) (t : Fin 2048) : EReal :=
  ∑ e : Fin 80, V (ix2 d e) * (level (proj x W b n e t) * ((1 / 4 : ℝ) : EReal)) + a (ix1 d)

/-- The index of codebook `q` in batch `n` at time `t`: its five levels, moved up by four, as the digits of an octal
    number. -/
def index (n : Fin 8) (q : Fin 16) (t : Fin 2048) : BitVec 32 :=
  Ideal.fptosi 32 (∑ k : Fin 5, (level (proj x W b n ⟨q.val * 5 + k.val, by omega⟩ t) + ((4 : ℝ) : EReal))
    * ((8 ^ k.val : ℝ) : EReal))

/-- The array of the quantised signal. -/
def zqArr : FVec Ideal ⟨3, ![8, 2048, 2048]⟩ .f32 := fun j => zq x W b V a (j 0) (j 1) (j 2)

/-- The array of the indices. -/
def indexArr : IVec ⟨3, ![8, 16, 2048]⟩ 32 := fun j => index x W b (j 0) (j 1) (j 2)

end Cert.Fsq

end
-- ==== Proof.Fsq.KernelArray.lean ====
/- What the kernel's two result arrays hold after the run: the blocks written at the grid points cover each array, and
   each block is the array's own part of the quantised signal, or of the indices. -/
module

public import proofs.«01_k».proof.Proof.Gen.KernelIdeal.Frame
public import proofs.«01_k».proof.Proof.Fsq.KernelPay
public import proofs.«01_k».proof.Proof.Fsq.Result
public import Idealize.ShloMosaic.Lib.Pipeline.ValueKit
public import Idealize.ShloMosaic.Lib.Claim

@[expose] public section

set_option maxRecDepth 16384

noncomputable section

namespace Cert.Fsq

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The block of each window at grid point `t`, which is half `t % 2` of the time axis of batch `t / 2`. -/
theorem blocks : ∀ t : Fin cfg0.N,
    win0_0.index t = ![t.val / 2, 0, t.val % 2] ∧ win0_1.index t = ![0, 0] ∧ win0_2.index t = ![0, 0]
      ∧ win0_3.index t = ![0, 0] ∧ win0_4.index t = ![0, 0] ∧ win0_5.index t = ![t.val / 2, 0, t.val % 2]
      ∧ win0_6.index t = ![t.val / 2, 0, t.val % 2] :=
  (by decide +kernel : ∀ t : Fin grid0.N, _)

/-- The batch of grid point `t`. -/
def batch (t : Fin cfg0.N) : Fin 8 := ⟨t.val / 2, by
  have h : t.val < 16 := t.isLt
  omega⟩

/-- The time at place `s` of the blocks of grid point `t`. -/
def time (t : Fin cfg0.N) (s : Fin 1024) : Fin 2048 := ⟨t.val % 2 * 1024 + s.val, by omega⟩

/-- The column of input biases at a grid point is the array of the input biases. -/
theorem bias_in (c : Dev nD) (t : Fin cfg0.N) (e : Fin 80) :
    iblk m c 2 t (ix2 e 0) = m ((c : Thread nD τ).loc main_arg2) (ix1 e) := by
  have h : V m c main_call0_v0 = shapeCast S80x1 (m ((c : Thread nD τ).loc main_arg2)) shapeCasts_S80_S80x1 := by
    simp only [V, V0, hostOps0, List.flatten_cons, List.flatten_nil, List.append_nil]
    after_results
    rfl
  have hp : (win0_2.blk t).view.emb (ix2 e 0) = ix2 e 0 := by blk_ext [blocks t]
  refine (congrFun h _).trans ?_
  refine (congrArg (shapeCast S80x1 (m ((c : Thread nD τ).loc main_arg2)) shapeCasts_S80_S80x1) hp).trans ?_
  pointwise

/-- The column of output biases at a grid point is the array of the output biases. -/
theorem bias_out (c : Dev nD) (t : Fin cfg0.N) (d : Fin 2048) :
    iblk m c 4 t (ix2 d 0) = m ((c : Thread nD τ).loc main_arg4) (ix1 d) := by
  have h : V m c main_call0_v1 = shapeCast S2048x1 (m ((c : Thread nD τ).loc main_arg4)) shapeCasts_S2048_S2048x1 := by
    simp only [V, V0, hostOps0, List.flatten_cons, List.flatten_nil, List.append_nil]
    after_results
    rfl
  have hp : (win0_4.blk t).view.emb (ix2 d 0) = ix2 d 0 := by blk_ext [blocks t]
  refine (congrFun h _).trans ?_
  refine (congrArg (shapeCast S2048x1 (m ((c : Thread nD τ).loc main_arg4)) shapeCasts_S2048_S2048x1) hp).trans ?_
  pointwise

/-- The levels computed at grid point `t` are those of its batch and times. -/
theorem level_point (c : Dev nD) (t : Fin cfg0.N) (e : Fin 80) (s : Fin 1024) :
    k0_pay2 (F := Ideal) (iblk m c 1 t) (iblk m c 0 t) (iblk m c 2 t) (ix2 e s)
      = level (proj (m ((c : Thread nD τ).loc main_arg0)) (m ((c : Thread nD τ).loc main_arg1))
          (m ((c : Thread nD τ).loc main_arg2)) (batch t) e (time t s)) := by
  rw [pay2_at]
  refine congrArg level ?_
  rw [proj, bias_in]
  unfold batch time
  blk_point [iblk, V, blocks t]

/-- Block place `(0, d, s)` of the first result at grid point `t` lies in its array at batch, `d` and time. -/
theorem place5 (t : Fin cfg0.N) (d : Fin 2048) (s : Fin 1024) :
    ((View.whole main_v0_0).slice (win0_5.rect t)).emb (ix3 0 d s) = ix3 (batch t) d (time t s) := by
  unfold batch time
  blk_ext [blocks t]

/-- Block place `(0, q, s)` of the second result at grid point `t` lies in its array at batch, `q` and time. -/
theorem place6 (t : Fin cfg0.N) (q : Fin 16) (s : Fin 1024) :
    ((View.whole main_v0_1).slice (win0_6.rect t)).emb (ix3 0 q s) = ix3 (batch t) q (time t s) := by
  unfold batch time
  blk_ext [blocks t]

/-- The first result array of the kernel is the quantised signal. -/
theorem zq_array (c : Dev nD) : (dats m 0 c).arrAt 5 cfg0.N
    = zqArr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  obtain ⟨d, s, rfl⟩ : ∃ (d : Fin 2048) (s : Fin 1024), y = ix3 0 d s := ⟨y 1, y 2, by
    idx_vars y
    exact congrArg (ix3 · y1 y2) (Subsingleton.elim y0 0)⟩
  rw [place5, pay3_at]
  simp only [level_point, bias_out, zqArr, zq, ix3_0, ix3_1, ix3_2]
  blk_point [iblk, V, blocks t]

/-- The second result array of the kernel is the array of the indices. -/
theorem index_array (c : Dev nD) : (dats m 0 c).arrAt 6 cfg0.N
    = indexArr (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6]
  frame_out
  obtain ⟨q, s, rfl⟩ : ∃ (q : Fin 16) (s : Fin 1024), y = ix3 0 q s := ⟨y 1, y 2, by
    idx_vars y
    exact congrArg (ix3 · y1 y2) (Subsingleton.elim y0 0)⟩
  rw [place6, pay5_at]
  simp only [pay4_at, level_point, sum_weight]
  rfl

end Cert.Fsq

end
-- ==== Proof.Fsq.RefConst.lean ====
/- The three constant vectors of the reference, one entry per level count: half the widened range, the offset, and the
   shift. Each entry is the constant of the same name that the scalar quantiser uses. -/
module

public import proofs.«01_k».proof.Proof.Gen.ReferenceIdeal.Run
public import proofs.«01_k».proof.Proof.Fsq.Level
public import Idealize.ShloMosaic.Lib.Pointwise

@[expose] public section

set_option maxRecDepth 16384

noncomputable section

namespace Cert.Fsq

open Idealize.ShloMosaic Cert.ReferenceIdeal Cert.ReferenceIdeal.Gen

/-- The reference's half range: the level counts less one, times one and a thousandth, over two. -/
def refHalf : FVec Ideal S5 .f32 :=
  Host.divf
    (mulf (subf (constant S5 .f32 0x41000000#32) (broadcastInDim S5 ![] bcast_S_S5 (constant S_ .f32 0x3F800000#32)))
      (broadcastInDim S5 ![] bcast_S_S5
        (addf (constant S_ .f32 0x3F800000#32) (Host.divf (constant S_ .f32 0x3F800000#32) (constant S_ .f32 0x447A0000#32)))))
    (broadcastInDim S5 ![] bcast_S_S5 (constant S_ .f32 0x40000000#32))

/-- The divisor two, replaced by one if it were zero. -/
def refTwo : IVec S_ 32 :=
  select (cmpi .eq (id (constantI S_ 32 2#32)) (constantI S_ 32 0#32)) (constantI S_ 32 1#32) (id (constantI S_ 32 2#32))

/-- The remainder of each level count by two, before the sign is settled. -/
def refRem : IVec S5 32 := Host.remsi (constantI S5 32 8#32) (broadcastInDim S5 ![] bcast_S_S5 refTwo)

/-- The remainder of each level count by two, with the sign of the divisor. -/
def refMod : IVec S5 32 :=
  select
    (andi
      (cmpi .ne (cmpi .slt refRem (broadcastInDim S5 ![] bcast_S_S5 (constantI S_ 32 0#32)))
        (broadcastInDim S5 ![] bcast_S_S5 (cmpi .slt refTwo (constantI S_ 32 0#32))))
      (cmpi .ne refRem (broadcastInDim S5 ![] bcast_S_S5 (constantI S_ 32 0#32))))
    (addi refRem (broadcastInDim S5 ![] bcast_S_S5 refTwo)) refRem

/-- The reference's offset: one half where the level count is even, else zero. -/
def refOffset : FVec Ideal S5 .f32 :=
  select (cmpi .eq refMod (broadcastInDim S5 ![] bcast_S_S5 (constantI S_ 32 0#32)))
    (broadcastInDim S5 ![] bcast_S_S5 (constant S_ .f32 0x3F000000#32))
    (broadcastInDim S5 ![] bcast_S_S5 (constant S_ .f32 0x00000000#32))

/-- The reference's shift: the inverse hyperbolic tangent of the offset over half the range. -/
def refShift : FVec Ideal S5 .f32 := Host.atanh (Host.divf (id refOffset) refHalf)

/-- Every entry of the half range is `halfL`. -/
theorem refHalf_at (k : Fin 5) : refHalf (ix1 k) = halfL := by
  pointwise [refHalf, lit_two, lit_eight, lit_thousand]
  rw [← EReal.coe_one, Ideal.div_coe (by norm_num), Ideal.div_coe (by norm_num), halfL]
  simp only [← EReal.coe_mul, ← EReal.coe_add, ← EReal.coe_sub]
  norm_num

/-- Eight is even: every entry of the remainder is zero. -/
theorem refMod_at (k : Fin 5) : refMod (ix1 k) = 0#32 := by
  pointwise [refMod, refRem, refTwo, id_eq]
  decide

/-- Every entry of the offset is one half. -/
theorem refOffset_at (k : Fin 5) : refOffset (ix1 k) = ((1 / 2 : ℝ) : EReal) := by
  pointwise [refOffset, refMod_at, lit_half]

/-- Every entry of the shift is `shift`. -/
theorem refShift_at (k : Fin 5) : refShift (ix1 k) = shift := by
  pointwise [refShift, id_eq, refOffset_at, refHalf_at]
  rw [halfL, Ideal.div_coe (by norm_num), ← EReal.coe_mul, ← atanh_ratio]
  refine congrArg (fun r : ℝ => Ideal.atanh (r : EReal)) ?_
  norm_num

end Cert.Fsq

end
-- ==== Proof.Fsq.RefArray.lean ====
/- The two result arrays of the reference, read at an index: the quantised signal and the indices. -/
module

public import proofs.«01_k».proof.Proof.Fsq.RefConst
public import proofs.«01_k».proof.Proof.Fsq.Result

@[expose] public section

set_option maxRecDepth 16384

noncomputable section

namespace Cert.Fsq

open Idealize.ShloMosaic Idealize.ShloMosaic.TcCoe Idealize.SL.Sem Cert.ReferenceIdeal Cert.ReferenceIdeal.Gen

/-- A vector of five entries, repeated over batch, time and codebook. -/
def refRow (v : FVec Ideal S5 .f32) : FVec Ideal S8x2048x16x5 .f32 :=
  broadcastInDim S8x2048x16x5 ![0, 1, 2, 3] bcast_S1x1x1x5_S8x2048x16x5_0_1_2_3
    (broadcastInDim S1x1x1x5 ![3] bcast_S5_S1x1x1x5_3 v)

variable (x : FVec Ideal S8x2048x2048 .f32) (W : FVec Ideal S80x2048 .f32) (b : FVec Ideal S80 .f32)
  (V : FVec Ideal S2048x80 .f32) (a : FVec Ideal S2048 .f32)

/-- The projection of the input, its eighty entries split into sixteen codebooks of five. -/
def refProj : FVec Ideal S8x2048x16x5 .f32 :=
  shapeCast _
    (addf
      (Host.dotGeneral dot_S8x2048x2048_S2048x80_S8x2048x80_2_0_01_1_n_n none
        (transpose S8x2048x2048 [0, 2, 1] x transposes_S8x2048x2048_S8x2048x2048_0_2_1)
        (transpose S2048x80 [1, 0] W transposes_S80x2048_S2048x80_1_0))
      (broadcastInDim S8x2048x80 ![0, 1, 2] bcast_S1x1x80_S8x2048x80_0_1_2
        (broadcastInDim S1x1x80 ![2] bcast_S80_S1x1x80_2 b)))
    shapeCasts_S8x2048x80_S8x2048x16x5

/-- The bounded projection. -/
def refBounded : FVec Ideal S8x2048x16x5 .f32 :=
  subf (mulf (Host.tanh (addf (refProj x W b) (refRow refShift))) (refRow refHalf)) (refRow (id refOffset))

/-- The codes: the bounded projection plus its rounding error, over four. -/
def refCodes : FVec Ideal S8x2048x16x5 .f32 :=
  Host.divf (addf (refBounded x W b) (subf (Host.roundeven (refBounded x W b)) (refBounded x W b)))
    (refRow (constant S5 .f32 0x40800000#32))

/-- The quantised signal of the reference. -/
def refZq : FVec Ideal S8x2048x2048 .f32 :=
  transpose S8x2048x2048 [0, 2, 1]
    (addf
      (Host.dotGeneral dot_S8x2048x80_S80x2048_S8x2048x2048_2_0_01_1_n_n none
        (shapeCast _ (refCodes x W b) shapeCasts_S8x2048x16x5_S8x2048x80)
        (transpose S80x2048 [1, 0] V transposes_S2048x80_S80x2048_1_0))
      (broadcastInDim S8x2048x2048 ![0, 1, 2] bcast_S1x1x2048_S8x2048x2048_0_1_2
        (broadcastInDim S1x1x2048 ![2] bcast_S2048_S1x1x2048_2 a)))
    transposes_S8x2048x2048_S8x2048x2048_0_2_1

/-- The powers of eight, from the reference's literal table. -/
def refBasis : FVec Ideal S5 .f32 := fun i => FloatOps.ofBits .f32 (lit0 (S5.rowMajor i))

/-- The indices of the reference. -/
def refIndex : IVec S8x16x2048 32 :=
  transpose S8x16x2048 [0, 2, 1]
    (fptosi 32
      (Host.reduceAdd
        (mulf
          (addf (mulf (refCodes x W b) (refRow (constant S5 .f32 0x40800000#32))) (refRow (constant S5 .f32 0x40800000#32)))
          (refRow refBasis))
        (constant S_ .f32 0x00000000#32) reducesTo_S8x2048x16x5_S8x2048x16_d3 h_S_))
    transposes_S8x2048x16_S8x16x2048_0_2_1

variable (m : (ℓ : Loc nD τ sig) → Buf (Elt Ideal) ℓ) (c : Dev nD)

/-- The first result of the reference's run is `refZq` of its arguments. -/
theorem run_zq : Value.res_main_v56 m c = refZq (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

/-- The second result of the reference's run is `refIndex` of its arguments. -/
theorem run_index : Value.res_main_v57 m c = refIndex (m ((c.tc : Thread nD τ).loc main_arg0))
    (m ((c.tc : Thread nD τ).loc main_arg1)) (m ((c.tc : Thread nD τ).loc main_arg2)) := rfl

/-- A repeated vector at an index is its entry at the last coordinate. -/
theorem refRow_at (v : FVec Ideal S5 .f32) (n : Fin 8) (t : Fin 2048) (q : Fin 16) (k : Fin 5) :
    refRow v (ix4 n t q k) = v (ix1 k) := by
  pointwise [refRow]

/-- The literal 1, as a power of eight. -/
theorem lit_pow0 : Ideal.ofBits .f32 0x3F800000#32 = ((8 ^ 0 : ℝ) : EReal) := by
  have h : (8 : ℝ) ^ 0 = 1 := by norm_num
  rw [h]
  simp [Ideal.ofBits, Ideal.ieee, -EReal.coe_mul]; norm_num

/-- The literal 64, as a power of eight. -/
theorem lit_pow2 : Ideal.ofBits .f32 0x42800000#32 = ((8 ^ 2 : ℝ) : EReal) := by
  have h : (8 : ℝ) ^ 2 = 64 := by norm_num
  rw [h]
  simp [Ideal.ofBits, Ideal.ieee, -EReal.coe_mul]; norm_num

/-- The literal 512, as a power of eight. -/
theorem lit_pow3 : Ideal.ofBits .f32 0x44000000#32 = ((8 ^ 3 : ℝ) : EReal) := by
  have h : (8 : ℝ) ^ 3 = 512 := by norm_num
  rw [h]
  simp [Ideal.ofBits, Ideal.ieee, -EReal.coe_mul]; norm_num

/-- The literal 4096, as a power of eight. -/
theorem lit_pow4 : Ideal.ofBits .f32 0x45800000#32 = ((8 ^ 4 : ℝ) : EReal) := by
  have h : (8 : ℝ) ^ 4 = 4096 := by norm_num
  rw [h]
  simp [Ideal.ofBits, Ideal.ieee, -EReal.coe_mul]; norm_num

/-- Entry `k` of the literal table is the `k`-th power of eight. -/
theorem refBasis_at (k : Fin 5) : refBasis (ix1 k) = ((8 ^ k.val : ℝ) : EReal) := by
  pointwise [refBasis]
  fin_cases k
  · exact lit_pow0
  · exact lit_eight.trans (by norm_num)
  · exact lit_pow2
  · exact lit_pow3
  · exact lit_pow4

/-- Entry `k` of codebook `q` is entry `5 q + k` of the projection. -/
theorem refProj_at (n : Fin 8) (t : Fin 2048) (q : Fin 16) (k : Fin 5) :
    refProj x W b (ix4 n t q k) = proj x W b n ⟨q.val * 5 + k.val, by omega⟩ t := by
  pointwise [refProj, proj]
  exact congrArg (· + _) (Finset.sum_congr rfl fun d _ => mul_comm _ _)

/-- The bounded projection at an index is the scalar bound of the projection there. -/
theorem refBounded_at (n : Fin 8) (t : Fin 2048) (q : Fin 16) (k : Fin 5) :
    refBounded x W b (ix4 n t q k) = bounded (proj x W b n ⟨q.val * 5 + k.val, by omega⟩ t) := by
  pointwise [refBounded, refRow_at, refProj_at, refShift_at, refHalf_at, refOffset_at, id_eq]
  rfl

/-- A code is a quarter of the level. -/
theorem refCodes_at (n : Fin 8) (t : Fin 2048) (q : Fin 16) (k : Fin 5) :
    refCodes x W b (ix4 n t q k)
      = level (proj x W b n ⟨q.val * 5 + k.val, by omega⟩ t) * ((1 / 4 : ℝ) : EReal) := by
  pointwise [refCodes, refRow_at, refBounded_at, lit_four]
  exact (congrArg (Ideal.div · _) (bounded_add_error _)).trans (level_div_four _)

/-- The quantised signal of the reference is the array of the quantised signal. -/
theorem refZq_eq : refZq x W b V a = zqArr x W b V a := by
  funext j
  idx_vars j
  pointwise [refZq, zqArr, zq]
  refine congrArg (· + _) (Finset.sum_congr rfl fun e _ => ?_)
  rw [refCodes_at, mul_comm]
  have he : (⟨e.val / 5 * 5 + e.val % 5, by omega⟩ : Fin 80) = e := Fin.ext (by dsimp only; omega)
  exact congrArg (fun i => V (ix2 j1 e) * (level (proj x W b j0 i j2) * ((1 / 4 : ℝ) : EReal))) he

/-- The indices of the reference are the array of the indices. -/
theorem refIndex_eq : refIndex x W b = indexArr x W b := by
  funext j
  idx_vars j
  pointwise [refIndex, refRow_at, refCodes_at, refBasis_at, lit_four, code_unscale, indexArr, index]
  rfl

end Cert.Fsq

end
-- ==== Proof.lean ====
/- The five claims about the quantiser: the kernel, its idealization and the reference run to the end and leave their
   arguments alone; the idealization only names two constants; and over the extended reals the kernel and the reference
   return equal arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Fsq.KernelArray
public import proofs.«01_k».proof.Proof.Fsq.RefArray
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates, its arguments unchanged and its semaphores at zero. -/
theorem kernel_frame : Cert.quiescent_Kernel (hKernel := Cert.Kernel.Gen.facts) :=
  fun m g _ => Cert.Kernel.Gen.frame m g

/-- The idealized kernel terminates, its arguments unchanged and its semaphores at zero. -/
theorem ideal_frame : Cert.quiescent_KernelIdeal (hKernelIdeal := Cert.KernelIdeal.Gen.facts) :=
  fun m g _ => Cert.KernelIdeal.Gen.frame m g

/-- The reference terminates, its arguments unchanged and its semaphores at zero. -/
theorem reference_frame : Cert.quiescent_ReferenceIdeal (hReferenceIdeal := Cert.ReferenceIdeal.Gen.facts) :=
  fun m g _ => (θ_run _ _ _).mono
    (fun _ h => ⟨fun c => (h c).2.2.2.2.2, sem_eq_zero_of_no_sems (sig := Cert.ReferenceIdeal.sig) (by decide) _⟩)
    (Cert.ReferenceIdeal.Value.run m g)

/-- The idealized kernel is the kernel with its shift and its half range named. -/
theorem named : Cert.preserves_Kernel_KernelIdeal :=
  ⟨IdealRules.named_const.statement Cert.KernelIdeal.κ "shift" .f32 0x3E1324E0#32
      (((1 / 2) * (Real.log (8007 / 6007)) : ℝ) : EReal) rfl,
    IdealRules.named_const.statement Cert.KernelIdeal.κ "half_l" .f32 0x40603958#32 ((7007 / 2000 : ℝ) : EReal) rfl⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- On device `c` the two programs are launched with equal arguments. -/
def Agree : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)

/-- From equal arguments the first results are equal. -/
theorem equal_zq (h : Agree m m' c) : Cert.ReferenceIdeal.Value.res_main_v56 m' c
    = (Cert.KernelIdeal.Gen.dats m 0 c).arrAt 5 Cert.KernelIdeal.cfg0.N := by
  obtain ⟨h0, h1, h2, h3, h4⟩ := h
  rw [Cert.Fsq.zq_array, Cert.Fsq.run_zq, Cert.Fsq.refZq_eq, h0, h1, h2, h3, h4]

/-- From equal arguments the second results are equal. -/
theorem equal_index (h : Agree m m' c) : Cert.ReferenceIdeal.Value.res_main_v57 m' c
    = (Cert.KernelIdeal.Gen.dats m 0 c).arrAt 6 Cert.KernelIdeal.cfg0.N := by
  obtain ⟨h0, h1, h2, -, -⟩ := h
  rw [Cert.Fsq.index_array, Cert.Fsq.run_index, Cert.Fsq.refIndex_eq, h0, h1, h2]

/-- From equal arguments the idealized kernel and the reference return equal arrays. -/
theorem equal : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
    · exact Cert.KernelIdeal.Gen.W_main_arg2 m _ c
    · exact Cert.KernelIdeal.Gen.W_main_arg4 m _ c
  · run_from Cert.ReferenceIdeal.Value.run m' g'
    · exact equal_zq m m' c (hagree c)
    · exact equal_index m m' c (hagree c)
    · exact equal_zq m m' c (hagree c)

/-- All five claims. -/
theorem claim : Cert.Claim :=
  ⟨Cert.Kernel.Gen.facts, Cert.KernelIdeal.Gen.facts, Cert.ReferenceIdeal.Gen.facts, kernel_frame, ideal_frame,
    reference_frame, named, equal⟩

end Cert.Proof

end
